-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "conf_less_share" .f32 0x3F665FD7#32 ((123681297195 / 137438953472 : ℝ) : EReal)

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S4096x1000 : Shape := ⟨2, ![4096, 1000]⟩
abbrev S4096 : Shape := ⟨1, ![4096]⟩
abbrev S_ : Shape := ⟨0, ![]⟩

class Facts : Prop where
  bcast_S_S4096x1000 : S_.BroadcastsInDim S4096x1000 (![] : Fin 0 → Fin S4096x1000.rank)
  bcast_S_S4096 : S_.BroadcastsInDim S4096 (![] : Fin 0 → Fin S4096.rank)

variable [Facts]

def fn {F : FTy → Type} [FloatOps F] (main_arg0 : FVec F S4096x1000 .f32) (main_arg1 : IVec S4096 32) : IVec S4096x1000 1 × IVec S4096 1 × IVec S4096 1 :=
  let main_cst : FVec F S_ .f32 := constant S_ .f32 0x7F800000#32
  let main_v0 : FVec F S4096x1000 .f32 := broadcastInDim S4096x1000 ![] bcast_S_S4096x1000 main_cst
  let main_v1 : IVec S4096x1000 1 := cmpf .olt main_arg0 main_v0
  let main_c : IVec S_ 32 := constantI S_ 32 0#32
  let main_v2 : IVec S4096 32 := broadcastInDim S4096 ![] bcast_S_S4096 main_c
  let main_v3 : IVec S4096 1 := cmpi .sge main_arg1 main_v2
  let main_c_0 : IVec S_ 32 := constantI S_ 32 1000#32
  let main_v4 : IVec S4096 32 := broadcastInDim S4096 ![] bcast_S_S4096 main_c_0
  let main_v5 : IVec S4096 1 := cmpi .slt main_arg1 main_v4
  (main_v1, main_v3, main_v5)
-- ==== Kernel.lean ====
abbrev S4096x1000 : Shape := ⟨2, ![4096, 1000]⟩
abbrev S4096 : Shape := ⟨1, ![4096]⟩
abbrev S1x4096 : Shape := ⟨2, ![1, 4096]⟩
abbrev S1x1 : Shape := ⟨2, ![1, 1]⟩
abbrev S1024x1000 : Shape := ⟨2, ![1024, 1000]⟩
abbrev S1x1024 : Shape := ⟨2, ![1, 1024]⟩
abbrev S1024x1 : Shape := ⟨2, ![1024, 1]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S4096x1000, .f32⟩
  | .hbm, ⟨1, _⟩ => ⟨S4096, .i32⟩
  | .hbm, ⟨2, _⟩ => ⟨S1x4096, .i32⟩
  | .hbm, ⟨3, _⟩ => ⟨S1x1, .f32⟩
  | .hbm, ⟨4, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1x1024, .i32⟩
  | .local _ .vmem, ⟨3, _⟩ => ⟨S1x1024, .i32⟩
  | .local _ .vmem, ⟨4, _⟩ => ⟨S1x1, .f32⟩
  | _, _ => ⟨S4096x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "conf_less_share" => some ((123681297195 / 137438953472 : ℝ) : EReal)
  | _ => none
-- ==== ReferenceIdeal.lean ====
abbrev S4096x1000 : Shape := ⟨2, ![4096, 1000]⟩
abbrev S4096 : Shape := ⟨1, ![4096]⟩
abbrev S_ : Shape := ⟨0, ![]⟩
abbrev S4096x1 : Shape := ⟨2, ![4096, 1]⟩
abbrev S4096x2 : Shape := ⟨2, ![4096, 2]⟩

abbrev nBuf : Space → Nat
  | .hbm => 48
  | .vmem => 0
  | .smem => 0
  | _ => 0

abbrev bufTy : (tb : Table) → Fin (tcTables nBuf tb) → BufTy
  | .hbm, ⟨0, _⟩ => ⟨S4096x1000, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x1000, .f32⟩
  | .hbm, ⟨9, _⟩ => ⟨S4096x1000, .f32⟩
  | .hbm, ⟨10, _⟩ => ⟨S4096x1000, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x1000, .f32⟩
  | .hbm, ⟨16, _⟩ => ⟨S4096x1000, .f32⟩
  | .hbm, ⟨17, _⟩ => ⟨S_, .f32⟩
  | .hbm, ⟨18, _⟩ => ⟨S4096x1000, .f32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x1, .i32⟩
  | .hbm, ⟨36, _⟩ => ⟨S4096x2, .i32⟩
  | .hbm, ⟨37, _⟩ => ⟨S_, .f32⟩
  | .hbm, ⟨38, _⟩ => ⟨S4096, .f32⟩
  | .hbm, ⟨39, _⟩ => ⟨S4096x1000, .f32⟩
  | .hbm, ⟨40, _⟩ => ⟨S4096x1000, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_cst_6 : Ref sig .tc := ⟨.hbm, 46, rfl⟩
abbrev main_v22 : Ref sig .tc := ⟨.hbm, 47, rfl⟩

abbrev nD : Nat := 1
abbrev τ : Topo := Topo.v7x

variable {F : FTy → Type} [FloatOps F]
-- ==== Proof.RowLoss.lean ====
/-
  The label-smoothed loss of one row of logits, in the extended reals, in two forms: the kernel's (the row's sum and the
  target's entry) and the reference's (a weighted sum over the classes), and their equality on rows without +∞.
-/
module

public import Idealize.ShloMosaic.PureOps.Ideal

@[expose] public section

noncomputable section

namespace Cert.Loss

open Idealize.ShloMosaic

/-- The largest entry of a row (`⊥` for an empty one). -/
def peak {n : ℕ} (x : Fin n → EReal) : EReal := Finset.univ.fold max ⊥ x

/-- The logarithm of the sum of the exponentials of a row's entries less its largest. -/
def logSum {n : ℕ} (x : Fin n → EReal) : EReal := Ideal.log (∑ k, Ideal.exp (x k - peak x))

/-- A row's loss as the kernel forms it from the row's sum and from `xt`, its target's entry: `-a` times the sum of the
    log-probabilities, less `b` times the target's. -/
def shortRow (a b : ℝ) {n : ℕ} (x : Fin n → EReal) (xt : EReal) : EReal :=
  ((-a : ℝ) : EReal) * ((∑ k, x k) - ((n : ℝ) : EReal) * (peak x + logSum x))
    - (b : EReal) * ((xt - peak x) - logSum x)

/-- A row's loss as the reference forms it: minus the sum over the classes of weight times log-probability. -/
def plainRow {n : ℕ} (w : Fin n → EReal) (x : Fin n → EReal) : EReal :=
  -(∑ k, w k * ((x k - peak x) - logSum x))

/-- Every entry is at most the largest. -/
theorem peak_le {n : ℕ} (x : Fin n → EReal) (k : Fin n) : x k ≤ peak x :=
  (Finset.le_fold_max _).2 (Or.inr ⟨k, Finset.mem_univ k, le_rfl⟩)

/-- Of a row without `⊤` the largest entry is not `⊤`. -/
theorem peak_lt_top {n : ℕ} (x : Fin n → EReal) (hx : ∀ k, x k < ⊤) : peak x < ⊤ :=
  (Finset.fold_max_lt _).2 ⟨bot_lt_top, fun k _ => hx k⟩

/-- A largest entry other than `⊥` is one of the row's. -/
theorem peak_mem {n : ℕ} (x : Fin n → EReal) (h : peak x ≠ ⊥) : ∃ k, x k = peak x := by
  rcases (Finset.le_fold_max (peak x)).1 (le_refl (Finset.univ.fold max ⊥ x)) with h' | ⟨k, _, hk⟩
  · exact absurd (le_bot_iff.1 h') h
  · exact ⟨k, le_antisymm (peak_le x k) hk⟩

/-- A sum with a term `⊥` is `⊥`. -/
theorem sum_bot {n : ℕ} (f : Fin n → EReal) (k : Fin n) (h : f k = ⊥) : ∑ i, f i = ⊥ := by
  rw [← Finset.add_sum_erase _ _ (Finset.mem_univ k), h, EReal.bot_add]

/-- A sum of reals, read in the extended reals. -/
theorem sum_real {n : ℕ} (r : Fin n → ℝ) : ∑ i, ((r i : ℝ) : EReal) = ((∑ i, r i : ℝ) : EReal) := by
  induction n with
  | zero => simp
  | succ n ih => rw [Fin.sum_univ_succ, Fin.sum_univ_succ, ih, EReal.coe_add]

/-- Of a row whose largest entry is a real, the logarithm of the sum of exponentials is a real. -/
theorem logSum_real {n : ℕ} (x : Fin n → EReal) (M : ℝ) (hM : peak x = (M : EReal)) : ∃ L : ℝ, logSum x = (L : EReal) := by
  have he : ∀ k, ∃ e : ℝ, 0 ≤ e ∧ Ideal.exp (x k - peak x) = (e : EReal) ∧ (x k = peak x → e = 1) := by
    intro k
    have hk := peak_le x k
    rw [hM] at hk ⊢
    induction h : x k with
    | bot => exact ⟨0, le_rfl, by simp [EReal.bot_sub], fun h => by cases h⟩
    | top => rw [h] at hk; exact absurd hk (by simp)
    | coe r =>
      refine ⟨Real.exp (r - M), (Real.exp_pos _).le, by rw [← EReal.coe_sub]; rfl, fun h => ?_⟩
      rw [EReal.coe_eq_coe_iff.1 h, sub_self, Real.exp_zero]
  choose e h0 hE h1 using he
  obtain ⟨k, hk⟩ := peak_mem x (by rw [hM]; exact EReal.coe_ne_bot M)
  have hs : (0 : ℝ) < ∑ i, e i :=
    lt_of_lt_of_le (by rw [h1 k hk]; exact one_pos) (Finset.single_le_sum (fun i _ => h0 i) (Finset.mem_univ k))
  refine ⟨Real.log (∑ i, e i), ?_⟩
  unfold logSum
  rw [Finset.sum_congr rfl fun i _ => hE i, sum_real]
  show (if (∑ i, e i) ≤ 0 then (⊥ : EReal) else _) = _
  rw [if_neg (not_le.2 hs)]

/-- On a row without `⊤`, the kernel's form of the loss at the target `τ` is the reference's with the weight `a + b` at
    the target and `a` elsewhere, for any positive `a` and `b`. -/
theorem shortRow_eq_plainRow (a b : ℝ) (ha : 0 < a) (hb : 0 < b) {n : ℕ} (x : Fin n → EReal) (hx : ∀ k, x k < ⊤) (τ : Fin n) :
    shortRow a b x (x τ) = plainRow (fun k => if k = τ then ((a + b : ℝ) : EReal) else (a : EReal)) x := by
  have hw : ∀ k, ∃ w : ℝ, 0 < w ∧ (if k = τ then ((a + b : ℝ) : EReal) else (a : EReal)) = (w : EReal)
      ∧ w = a + if k = τ then b else 0 := fun k => by
    by_cases h : k = τ
    · exact ⟨a + b, by positivity, by rw [if_pos h], by rw [if_pos h]⟩
    · exact ⟨a, ha, by rw [if_neg h], by rw [if_neg h, add_zero]⟩
  choose w w0 wE wV using hw
  have hn : 0 < (n : ℝ) := by exact_mod_cast Fin.pos τ
  unfold shortRow plainRow
  simp only [wE]
  have hna : -a < 0 := neg_lt_zero.2 ha
  by_cases hbot : peak x = ⊥
  · have hxb : ∀ k, x k = ⊥ := fun k => le_bot_iff.1 (hbot ▸ peak_le x k)
    rw [hbot, hxb τ, sum_bot x τ (hxb τ), sum_bot _ τ (by rw [hxb τ, EReal.bot_sub, EReal.bot_sub, EReal.coe_mul_bot_of_pos (w0 τ)]),
      EReal.bot_sub, EReal.bot_sub, EReal.bot_sub, EReal.coe_mul_bot_of_neg hna, EReal.coe_mul_bot_of_pos hb, EReal.neg_bot]
    rfl
  · obtain ⟨M, hM⟩ : ∃ M : ℝ, peak x = (M : EReal) :=
      ⟨_, (EReal.coe_toReal (peak_lt_top x hx).ne hbot).symm⟩
    obtain ⟨L, hL⟩ := logSum_real x M hM
    rw [hM, hL]
    by_cases hex : ∃ k, x k = ⊥
    · obtain ⟨k, hk⟩ := hex
      rw [sum_bot x k hk, sum_bot _ k (by rw [hk, EReal.bot_sub, EReal.bot_sub, EReal.coe_mul_bot_of_pos (w0 k)]), EReal.bot_sub,
        EReal.coe_mul_bot_of_neg hna, EReal.neg_bot]
      induction h : x τ with
      | bot => rw [EReal.bot_sub, EReal.bot_sub, EReal.coe_mul_bot_of_pos hb]; rfl
      | top => exact absurd h (hx τ).ne
      | coe r => rw [← EReal.coe_sub, ← EReal.coe_sub, ← EReal.coe_mul, EReal.top_sub_coe]
    · have hr : ∀ k, ∃ r : ℝ, x k = (r : EReal) := fun k =>
        ⟨_, (EReal.coe_toReal (hx k).ne fun h => hex ⟨k, h⟩).symm⟩
      choose r hr using hr
      simp only [hr, ← EReal.coe_sub, ← EReal.coe_add, ← EReal.coe_mul, sum_real, ← EReal.coe_neg]
      refine congrArg _ ?_
      have hs : ∑ i, w i * (r i - M - L) = a * ((∑ i, r i) - n * (M + L)) + b * (r τ - M - L) := by
        simp only [wV, add_mul, Finset.sum_add_distrib, ← Finset.mul_sum, ite_mul, zero_mul, Finset.sum_ite_eq',
          Finset.mem_univ, if_true, Finset.sum_sub_distrib, Finset.sum_const, Finset.card_univ, Fintype.card_fin, nsmul_eq_mul]
        ring
      rw [hs]
      ring

/-- The entry of a row that the word `w` names, as the kernel selects it: the sum of the row with every other entry
    replaced by zero. -/
def picked {n : ℕ} (x : Fin n → EReal) (w : BitVec 32) : EReal :=
  ∑ k : Fin n, Scalar.select (IntOp.cmpi .eq (BitVec.ofNat 32 k.val) w) (x k) 0

/-- With a class number for the word, the picked entry is that class's. -/
theorem picked_eq {n : ℕ} (hn : n < 2 ^ 32) (x : Fin n → EReal) (w : BitVec 32) (τ : Fin n) (hτ : w.toNat = τ.val) :
    picked x w = x τ := by
  have h : ∀ k : Fin n, Scalar.select (IntOp.cmpi .eq (BitVec.ofNat 32 k.val) w) (x k) 0 = if k = τ then x k else 0 := by
    intro k
    have e : (BitVec.ofNat 32 k.val = w) ↔ k = τ := by
      rw [← BitVec.toNat_inj, BitVec.toNat_ofNat, hτ, Nat.mod_eq_of_lt (lt_trans k.isLt hn), Fin.ext_iff]
    by_cases hk : k = τ
    · rw [if_pos hk]; simp [Scalar.select, IntOp.cmpi, e.2 hk]
    · rw [if_neg hk]; simp [Scalar.select, IntOp.cmpi, beq_eq_false_iff_ne.2 (mt e.1 hk)]
  unfold picked
  rw [Finset.sum_congr rfl fun k _ => h k, Finset.sum_ite_eq' Finset.univ τ x, if_pos (Finset.mem_univ τ)]

/-- Multiplying by a nonnegative real distributes over any sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert i s hi ih =>
    rw [Finset.sum_insert hi, Finset.sum_insert hi, ← ih,
      EReal.right_distrib_of_nonneg_of_ne_top (EReal.coe_nonneg.2 hc) (EReal.coe_ne_top c)]

/-- A sum over `p * q` terms is the sum over `p` runs of `q` terms each. -/
theorem sum_runs (p q : ℕ) (f : Fin (p * q) → EReal) :
    ∑ i, f i = ∑ t : Fin p, ∑ r : Fin q, f (finProdFinEquiv (t, r)) := by
  rw [← Equiv.sum_comp finProdFinEquiv f, Fintype.sum_prod_type]

end Cert.Loss

end
-- ==== Proof.Consts.lean ====
/-
  The float words of the two programs, read as extended reals.
-/
module

public import Idealize.ShloMosaic.PureOps.Ideal

@[expose] public section

noncomputable section

namespace Cert.Loss

open Idealize.ShloMosaic

/-- The weight of a class that is not the target: the float nearest 0.1/999. -/
def share : ℝ := 13757653 / 137438953472
/-- By how much the target's weight, the float nearest 0.9, exceeds it. -/
def excess : ℝ := 123681297195 / 137438953472

/-- The common weight is positive. -/
theorem share_pos : 0 < share := by unfold share; norm_num
/-- So is the excess. -/
theorem excess_pos : 0 < excess := by unfold excess; norm_num

/-- The word of the reference's common weight. -/
theorem word_share : Ideal.ofBits .f32 0x38D1ECD5#32 = (share : EReal) := by
  unfold share
  simp [Ideal.ofBits, Ideal.ieee, -EReal.coe_mul]; norm_num
/-- The word of the kernel's negated weight. -/
theorem word_neg_share : Ideal.ofBits .f32 0xB8D1ECD5#32 = ((-share : ℝ) : EReal) := by
  unfold share
  simp [Ideal.ofBits, Ideal.ieee, -EReal.coe_mul, -EReal.coe_neg]; norm_num
/-- The word of the target's weight. -/
theorem word_conf : Ideal.ofBits .f32 0x3F666666#32 = ((share + excess : ℝ) : EReal) := by
  unfold share excess
  simp [Ideal.ofBits, Ideal.ieee, -EReal.coe_mul, -EReal.coe_add]; norm_num
/-- The word of the number of classes. -/
theorem word_classes : Ideal.ofBits .f32 0x447A0000#32 = (((1000 : ℕ) : ℝ) : EReal) := by
  simp [Ideal.ofBits, Ideal.ieee, -EReal.coe_mul]; norm_num
/-- The word of one over the number of rows. -/
theorem word_inv_rows : Ideal.ofBits .f32 0x39800000#32 = ((1 / 4096 : ℝ) : EReal) := by
  simp [Ideal.ofBits, Ideal.ieee, -EReal.coe_mul]; norm_num
/-- The word of the number of rows. -/
theorem word_rows : Ideal.ofBits .f32 0x45800000#32 = ((4096 : ℝ) : EReal) := by
  simp [Ideal.ofBits, Ideal.ieee, -EReal.coe_mul]; norm_num
/-- The word a maximum starts from. -/
theorem word_bottom : Ideal.ofBits .f32 0xFF800000#32 = ⊥ := by
  simp [Ideal.ofBits, Ideal.ieee]
/-- The word of the upper bound in the precondition. -/
theorem word_top : Ideal.ofBits .f32 0x7F800000#32 = ⊤ := by
  simp [Ideal.ofBits, Ideal.ieee]

end Cert.Loss

end
-- ==== Proof.BlockValue.lean ====
/-
  What the kernel computes from one block of 1024 rows: the sum of its rows' losses, times 1/4096.
-/
module

public import proofs.«01_k».proof.Proof.RowLoss
public import proofs.«01_k».proof.Proof.Consts
public import proofs.«01_k».proof.Proof.Gen.KernelIdeal.Skeleton
public import Idealize.ShloMosaic.PureOps.IdealRules
public import Idealize.ShloMosaic.Lib.Pointwise

@[expose] public section

noncomputable section

namespace Cert.KernelIdeal.Block

open Idealize.ShloMosaic Cert.KernelIdeal Cert.KernelIdeal.Gen Cert.Loss

/-- The named constant is the reference's target weight less its common weight. -/
theorem named_excess : Named.named (F := Ideal) (φ := .f32) κ "conf_less_share" 0x3F665FD7#32 = (excess : EReal) :=
  IdealRules.named_const.ideal_named_scalar _ _ _ _ rfl

/-- A block's value: the sum over its rows of the kernel's loss of the row, times 1/4096. -/
theorem partial_eq (x : FVec Ideal S1024x1000 .f32) (t : IVec S1x1024 32) (j : S1x1.Idx) :
    k0_pay2 (F := Ideal) x t j
      = (∑ r : Fin 1024, shortRow share excess (fun k : Fin 1000 => x (ix2 r k))
          (picked (fun k : Fin 1000 => x (ix2 r k)) (t (ix2 (0 : Fin 1) r)))) * ((1 / 4096 : ℝ) : EReal) := by
  pointwise [k0_pay2]
  simp only [Finset.univ_unique, Finset.sum_singleton]
  rw [word_inv_rows, word_neg_share, word_classes, word_bottom, named_excess]
  rfl

end Cert.KernelIdeal.Block

end
-- ==== Proof.KernelValue.lean ====
/-
  The array the kernel returns. Each grid point adds its block's value to the one-element accumulator, which point 0 first
  sets to zero; the last point's accumulator is written back, and the trailing reshape returns it.
-/
module

public import proofs.«01_k».proof.Proof.Gen.KernelIdeal.Frame
public import Idealize.ShloMosaic.Lib.Pipeline.Value
public import Idealize.ShloMosaic.Lib.StableHlo.Run
public import Idealize.ShloMosaic.Lib.ValueIdx
public import Idealize.ShloMosaic.Lib.ValueIdxRank1
public import Idealize.ShloMosaic.Lib.Tactic

@[expose] public section

noncomputable section

namespace Cert.KernelIdeal.Value

open Idealize.ShloMosaic Idealize.ShloMosaic.TcCoe Idealize.SL.Sem
open Idealize.ShloMosaic.Pipeline (Dat)
open Idealize.ShloMosaic.ValueIdx
open Cert.KernelIdeal Cert.KernelIdeal.Gen

variable {F : FTy → Type} [FloatOps F] [Named F]
variable (m : (ℓ : Loc nD τ sig) → Buf (Elt F) ℓ) (ρ : Dev nD → PrngReg)

/-- The offsets of a whole block are zero. -/
theorem origin : (![0, 0] : Fin 2 → Nat) = fun _ => 0 := funext fun a => by fin_cases a <;> rfl

/-- At a later point the body leaves the accumulator it found plus the block's value. -/
theorem left_B (c : Dev nD) (i : grid0.Coords) (a1 : Memref sig .tc .vmem S1024x1000 .f32) (h1 : a1.IsWhole)
    (a2 : Memref sig .tc .vmem S1x1024 .i32) (h2 : a2.IsWhole) (a3 : Memref sig .tc .vmem S1x1 .f32) (h3 : a3.IsWhole)
    (hc : ¬cond0_0 i) (x : Vec F S1024x1000 .f32) (t : Vec F S1x1024 .i32) (acc : Vec F S1x1 .f32) :
    out0_B_2 c i a1 h1 a2 h2 a3 h3 hc x t acc = addf acc (k0_pay2 x t) := by
  unfold out0_B_2
  rw [View.read_writes_eq_canon _ _ _ (cover0_B_2 c i a1 h1 a2 h2 a3 h3 hc x t acc)]
  unfold kernelRun0_B
  dsimp only
  sl_unfold_words
  rw [View.canon_unit_zero origin]
  unfold k0_pay1
  simp only [View.readAt_eq_ld, h1.read_unread, h2.read_unread, h3.read_unread, View.ld_unit_zero (S := S1024x1000) origin,
    View.ld_unit_zero (S := S1x1024) origin, View.ld_unit_zero (S := S1x1) origin, shapeCast_self]

/-- At point 0 the body leaves zero plus the block's value. -/
theorem left_A (c : Dev nD) (i : grid0.Coords) (a1 : Memref sig .tc .vmem S1024x1000 .f32) (h1 : a1.IsWhole)
    (a2 : Memref sig .tc .vmem S1x1024 .i32) (h2 : a2.IsWhole) (a3 : Memref sig .tc .vmem S1x1 .f32) (h3 : a3.IsWhole)
    (hc : cond0_0 i) (x : Vec F S1024x1000 .f32) (t : Vec F S1x1024 .i32) :
    out0_A_2 c i a1 h1 a2 h2 a3 h3 hc x t = addf k0_pay3 (k0_pay2 x t) := by
  unfold out0_A_2
  rw [View.read_writes_eq_canon _ _ _ (cover0_A_2 c i a1 h1 a2 h2 a3 h3 hc x t)]
  unfold kernelRun0_A
  dsimp only
  sl_unfold_words
  rw [View.canon_cons_unit_zero (S := S1x1) origin, View.readCov_unit_zero (S := S1x1) _ origin]
  unfold k0_pay1
  simp only [View.readAt_eq_ld, h1.read_unread, h2.read_unread, View.ld_unit_zero (S := S1024x1000) origin,
    View.ld_unit_zero (S := S1x1024) origin, View.ld_unit_zero (S := S1x1) origin, shapeCast_self]

/-- The accumulator after point `n`. -/
def running (c : Dev nD) : (n : ℕ) → n < cfg0.N → Vec F S1x1 .f32
  | 0, h => addf k0_pay3 (k0_pay2 (iblk m c 0 ⟨0, h⟩) (iblk m c 1 ⟨0, h⟩))
  | n + 1, h => addf (running c n (Nat.lt_of_succ_lt h)) (k0_pay2 (iblk m c 0 ⟨n + 1, h⟩) (iblk m c 1 ⟨n + 1, h⟩))

/-- What the body leaves after point `n` is that accumulator. -/
theorem left_eq (c : Dev nD) : ∀ (n : ℕ) (h : n < cfg0.N), outsAt0 m c n h = running m c n h
  | 0, h => (outsAt0_A m c ⟨0, h⟩ rfl).trans (left_A ..)
  | n + 1, h => by
    have hN : cfg0.N = 4 := N_0
    have hB : ¬(⟨n + 1, h⟩ : Fin cfg0.N).val % 4 = 0 := by dsimp only; omega
    rw [outsAt0_B m c ⟨n + 1, h⟩ hB, left_B]
    show addf (outsAt0 m c n _) _ = addf (running m c n _) _
    rw [left_eq c n]

/-- The accumulator after the last point, as contents of the pipeline's result array. -/
abbrev total (c : Dev nD) : Buf (Elt F) ((c : Thread nD τ).loc main_v1) := running m c 3 (by rw [show cfg0.N = 4 from N_0]; decide)

/-- The one write-back, after point 3, writes it. -/
theorem flushed_total (c : Dev nD) (t : Fin cfg0.N) (hf : (cfg0.win 2).flush t = true) :
    (dats m 0 c).flushed 2 t = ((cfg0.win 2).blk t).view.read (Elt F) (total m c) := by
  have hN : cfg0.N = 4 := N_0
  have h3 : t.val = 3 := by have := (flush0_2 t).mp hf; have := t.isLt; omega
  obtain rfl : t = t0_3 := Fin.ext h3
  show (cfg0.win 2).cut (grid0.coords t0_3) ((dats m 0 c).after 2 t0_3) = _
  rw [after0_2, left_eq]
  have ho : (fun a => win0_2.index t0_3 a * main_v1.ty.shape.size a) = fun _ => 0 := funext fun a => by fin_cases a <;> decide
  exact (Memref.read_access_unit_zero (Elt F) main_v1 ho (fun a => by rw [congrFun ho a]; simp) (total m c)).symm

/-- So the pipeline's result array ends at the accumulator after point 3. -/
theorem final_total (c : Dev nD) : (dats m 0 c).arrAt 2 cfg0.N = total m c :=
  (dats m 0 c).arrAt_eq_of_cover 2 (total m c) (flushed_total m c) fun i =>
    ⟨t0_3, (flush0_2 t0_3).mpr rfl, by
      show i ∈ ((View.whole main_v1).slice (win0_2.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_3 0 * win0_2.size 0 ≤ (i 0 : Nat) ∧ (i 0 : Nat) < win0_2.index t0_3 0 * win0_2.size 0 + win0_2.xsize (grid0.coords t0_3) 0
                  rw [show win0_2.index t0_3 0 * win0_2.size 0 = 0 from by decide +kernel, show win0_2.xsize (grid0.coords t0_3) 0 = 1 from by decide +kernel]; omega
      | ⟨1, _⟩ => show win0_2.index t0_3 1 * win0_2.size 1 ≤ (i 1 : Nat) ∧ (i 1 : Nat) < win0_2.index t0_3 1 * win0_2.size 1 + win0_2.xsize (grid0.coords t0_3) 1
                  rw [show win0_2.index t0_3 1 * win0_2.size 1 = 0 from by decide +kernel, show win0_2.xsize (grid0.coords t0_3) 1 = 1 from by decide +kernel]; omega⟩

/-- What the trailing reshape leaves in the program's result: the accumulator's one element. -/
theorem tail_result (c : Dev nD) :
    Pipeline.afterTail₀ cfgs (dats m) 0 (V0 m) [hostOps1] c main_v2 = fun _ => total m c (ix2 0 0) := by
  unfold Pipeline.afterTail₀
  rw [List.flatten_cons, List.flatten_nil, List.append_nil, StableHlo.after_cons, StableHlo.after_nil, StableHlo.reshape_result]
  funext i
  show shapeCast S_ (Pipeline.withArrays spec0 c (V0 m c) (fun w => (dats m 0 c).arrAt w cfg0.N) (Proc.devRef .tc (Pipeline.arrRef spec0 2))) shapeCasts_S1x1_S_ i = _
  rw [Pipeline.withArrays_arr spec0 launch0.win.arr_inj c, final_total]
  exact congrArg (total m c) (funext fun a => Fin.ext (by
    match a with
    | ⟨0, _⟩ => exact Nat.lt_one_iff.1 (Fin.isLt _)
    | ⟨1, _⟩ => exact Nat.lt_one_iff.1 (Fin.isLt _)))

/-- The run, read: the program's result is the accumulator's element, the arguments unchanged. -/
theorem run : θ_run defs (onTc (τ := τ) (main (F := F))) ⟨m, fun _ => 0, ρ⟩ fun r => ∀ c : Dev nD,
      r.2.mem ((c.tc : Thread nD τ).loc main_v2) = (fun _ => total m c (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h.1 c, h.2 c⟩)
    (θ_run_and
      ((θ_run defs _ _).mono
        (fun r h c => ((h c).2 main_v2 (Pipeline.mem_restRefs_of main_v2 (by decide) (by decide))).trans (tail_result m c) :
          ∀ r, _ → ∀ c : Dev nD, r.2.mem ((c.tc : Thread nD τ).loc main_v2) = (fun _ => total m c (ix2 0 0)))
        (run_main m ρ))
      (unchanged m ρ))

/-- Block `t` of the logits is rows `1024 t` to `1024 t + 1023`. -/
theorem logits_block (c : Dev nD) (t : Fin cfg0.N) (r : Fin 1024) (k : Fin 1000) (hr : 1024 * t.val + r.val < 4096) :
    (iblk m c 0 t : Vec F S1024x1000 .f32) (ix2 r k)
      = m ((c.tc : Thread nD τ).loc main_arg0) (ix2 (⟨1024 * t.val + r.val, hr⟩ : Fin 4096) k : S4096x1000.Idx) := by
  have hi : win0_0.index t 0 = t.val ∧ win0_0.index t 1 = 0 := by
    rcases fin_N0 t with rfl | rfl | rfl | rfl <;> decide
  unfold iblk
  rw [View.read_apply]
  show V m c main_arg0 _ = _
  rw [V_main_arg0]
  refine congrArg (m ((c.tc : Thread nD τ).loc main_arg0)) (funext fun a => Fin.ext ?_)
  match a with
  | ⟨0, _⟩ => show win0_0.index t 0 * 1024 + 1 * r.val = 1024 * t.val + r.val; rw [hi.1]; omega
  | ⟨1, _⟩ => show win0_0.index t 1 * 1000 + 1 * k.val = k.val; rw [hi.2]; omega

/-- Block `t` of the targets is the targets of the same rows. -/
theorem targets_block (c : Dev nD) (t : Fin cfg0.N) (r : Fin 1024) (hr : 1024 * t.val + r.val < 4096) :
    (iblk m c 1 t : Vec F S1x1024 .i32) (ix2 (0 : Fin 1) r)
      = m ((c.tc : Thread nD τ).loc main_arg1) (ix1 (⟨1024 * t.val + r.val, hr⟩ : Fin 4096) : S4096.Idx) := by
  have hi : win0_1.index t 0 = 0 ∧ win0_1.index t 1 = t.val := by
    rcases fin_N0 t with rfl | rfl | rfl | rfl <;> decide
  have hv : V m c main_v0 = shapeCast S1x4096 (m ((c.tc : Thread nD τ).loc main_arg1)) shapeCasts_S4096_S1x4096 := by
    show StableHlo.after (List.flatten [hostOps0]) (fun b => m (c, b)) (Proc.devRef .tc main_v0) = _
    rw [List.flatten_cons, List.flatten_nil, List.append_nil, StableHlo.after_cons, StableHlo.after_nil, StableHlo.reshape_result]
    rfl
  unfold iblk
  rw [View.read_apply]
  show V m c main_v0 _ = _
  rw [hv]
  have hp : ((cfg0.win 1).blk t).view.emb (ix2 (0 : Fin 1) r) = (ix2 (0 : Fin 1) (⟨1024 * t.val + r.val, hr⟩ : Fin 4096) : S1x4096.Idx) := by
    funext a
    apply Fin.ext
    match a with
    | ⟨0, _⟩ => show win0_1.index t 0 * 1 + 1 * 0 = 0; rw [hi.1]
    | ⟨1, _⟩ => show win0_1.index t 1 * 1024 + 1 * r.val = 1024 * t.val + r.val; rw [hi.2]; omega
  rw [hp]
  refine (shapeCast_addUnit_apply ![4096] (m ((c.tc : Thread nD τ).loc main_arg1)) shapeCasts_S4096_S1x4096 _).trans ?_
  exact congrArg (m ((c.tc : Thread nD τ).loc main_arg1)) (funext fun a => by match a with | ⟨0, _⟩ => rfl)

end Cert.KernelIdeal.Value

end
-- ==== Proof.KernelMean.lean ====
/-
  The kernel's result in closed form: the sum over the 4096 rows of the kernel's loss of the row, times 1/4096.
-/
module

public import proofs.«01_k».proof.Proof.BlockValue
public import proofs.«01_k».proof.Proof.KernelValue

@[expose] public section

noncomputable section

namespace Cert.KernelIdeal.Mean

open Idealize.ShloMosaic Idealize.ShloMosaic.TcCoe
open Cert.KernelIdeal Cert.KernelIdeal.Gen Cert.Loss

variable (m : (ℓ : Loc nD τ sig) → Buf (Elt Ideal) ℓ)

/-- Row `i` of the logits. -/
abbrev row (c : Dev nD) (i : Fin 4096) : Fin 1000 → EReal :=
  fun k => m ((c.tc : Thread nD τ).loc main_arg0) (ValueIdx.ix2 i k : S4096x1000.Idx)

/-- The target word of row `i`. -/
abbrev target (c : Dev nD) (i : Fin 4096) : BitVec 32 :=
  m ((c.tc : Thread nD τ).loc main_arg1) (ValueIdx.ix1 i : S4096.Idx)

/-- The kernel's loss of row `i`, the targets `cls` being classes. -/
abbrev lossOf (c : Dev nD) (cls : Fin 4096 → Fin 1000) (i : Fin 4096) : EReal :=
  shortRow share excess (row m c i) (row m c i (cls i))

/-- Block `t`'s value is the sum of the losses of its 1024 rows, times 1/4096. -/
theorem block_eq (c : Dev nD) (cls : Fin 4096 → Fin 1000) (hc : ∀ i, (target m c i).toNat = (cls i).val)
    (t : Fin 4) (t' : Fin cfg0.N) (ht : t'.val = t.val) (j : S1x1.Idx) :
    k0_pay2 (F := Ideal) (iblk m c 0 t') (iblk m c 1 t') j
      = (∑ r : Fin 1024, lossOf m c cls (finProdFinEquiv (t, r))) * ((1 / 4096 : ℝ) : EReal) := by
  rw [Block.partial_eq]
  refine congrArg (· * ((1 / 4096 : ℝ) : EReal)) (Finset.sum_congr rfl fun r _ => ?_)
  have hr : 1024 * t'.val + r.val < 4096 := by have := t.isLt; have := r.isLt; omega
  have hi : (finProdFinEquiv (t, r) : Fin 4096) = ⟨1024 * t'.val + r.val, hr⟩ :=
    Fin.ext (by show r.val + 1024 * t.val = 1024 * t'.val + r.val; omega)
  rw [hi]
  have hx : (fun k : Fin 1000 => (iblk m c 0 t' : Vec Ideal S1024x1000 .f32) (ix2 r k)) = row m c ⟨1024 * t'.val + r.val, hr⟩ :=
    funext fun k => by rw [ix2_eq_valueIdx]; exact Value.logits_block m c t' r k hr
  have hw : (iblk m c 1 t' : Vec Ideal S1x1024 .i32) (ix2 (0 : Fin 1) r) = target m c ⟨1024 * t'.val + r.val, hr⟩ := by
    rw [ix2_eq_valueIdx]; exact Value.targets_block m c t' r hr
  rw [hx, hw, picked_eq (by decide) _ _ _ (hc _)]

/-- The kernel's result. -/
theorem result_eq (c : Dev nD) (cls : Fin 4096 → Fin 1000) (hc : ∀ i, (target m c i).toNat = (cls i).val) :
    Value.total m c (ValueIdx.ix2 0 0) = (∑ i : Fin 4096, lossOf m c cls i) * ((1 / 4096 : ℝ) : EReal) := by
  have hN : cfg0.N = 4 := N_0
  have h0 : k0_pay3 (F := Ideal) (ValueIdx.ix2 0 0 : S1x1.Idx) = (0 : EReal) := Ideal.ofBits_zero_f32
  have hb := fun (t : Fin 4) => block_eq m c cls hc t ⟨t.val, by rw [hN]; exact t.isLt⟩ rfl (ValueIdx.ix2 0 0)
  have hs : ∑ i : Fin 4096, lossOf m c cls i = ∑ t : Fin 4, ∑ r : Fin 1024, lossOf m c cls (finProdFinEquiv (t, r)) :=
    sum_runs 4 1024 (lossOf m c cls)
  rw [hs, sum_mul_real _ _ _ (by norm_num), Fin.sum_univ_four, ← hb 0, ← hb 1, ← hb 2, ← hb 3]
  show (((k0_pay3 (F := Ideal) (ValueIdx.ix2 0 0 : S1x1.Idx) + _ : EReal) + _) + _) + _ = _
  rw [h0, zero_add]
  rfl

end Cert.KernelIdeal.Mean

end
-- ==== Proof.RefWeights.lean ====
/-
  The reference's weights: the scatter leaves, in row `i`, 0.9's word at the row's target class and the common weight at every
  other class.
-/
module

public import proofs.«01_k».proof.Proof.Consts
public import proofs.«01_k».proof.Proof.Gen.ReferenceIdeal.Read
public import Idealize.ShloMosaic.Lib.Routing.OpsPair
public import Idealize.ShloMosaic.Lib.Routing.OpsSet
public import Idealize.ShloMosaic.Lib.ValueIdxRank1

@[expose] public section

noncomputable section

namespace Cert.ReferenceIdeal.Rows

open Idealize.ShloMosaic Idealize.ShloMosaic.ValueIdx
open Cert.ReferenceIdeal Cert.ReferenceIdeal.Gen Cert.ReferenceIdeal.Read Cert.Loss

/-- The words of index row `i` of the scatter: first the row's own number. -/
theorem words_row (t : (⟨S4096, .i32⟩ : BufTy).Contents (Elt Ideal)) (i : Fin 4096) :
    val_main_v15 (F := Ideal) t (ix2 i (0 : Fin 2) : S4096x2.Idx) = BitVec.ofNat 32 i.val := by
  have h := i.isLt
  unfold val_main_v15
  rw [concatenate_pair_apply_left (s₁ := S4096x1) (s₂ := S4096x1) (t := S4096x2) 1 _ _ _ _ rfl (ix2 i (0 : Fin 1) : S4096x1.Idx)
    (fun b => by match b with | ⟨0, _⟩ => rfl | ⟨1, _⟩ => rfl), val_main_v13_apply, val_main_v7_apply, val_main_v4_apply,
    val_main_v3_apply, val_main_c_apply, val_main_v2_apply]
  exact Routing.wrap_of_lt _ _ (by rw [WordCmp.toNat_ofNat_of_lt (show i.val < 2 ^ 32 by omega)]; omega)

/-- Then the row's target, when that is not negative. -/
theorem words_target (t : (⟨S4096, .i32⟩ : BufTy).Contents (Elt Ideal)) (i : Fin 4096)
    (h : (t (ix1 i : S4096.Idx) : BitVec 32).toNat < 2 ^ 31) :
    val_main_v15 (F := Ideal) t (ix2 i (1 : Fin 2) : S4096x2.Idx) = t (ix1 i : S4096.Idx) := by
  have e : idx_main_v14 (ix2 i (0 : Fin 1) : S4096x1.Idx) = (ix1 i : S4096.Idx) :=
    funext fun a => by match a with | ⟨0, _⟩ => rfl
  unfold val_main_v15
  rw [concatenate_pair_apply_right (s₁ := S4096x1) (s₂ := S4096x1) (t := S4096x2) 1 _ _ _ _ rfl rfl (ix2 i (0 : Fin 1) : S4096x1.Idx)
    (fun b hb => by match b with | ⟨0, _⟩ => rfl | ⟨1, _⟩ => exact absurd rfl hb) rfl, val_main_v14_apply, val_main_v12_apply,
    val_main_v9_apply, val_main_v8_apply, val_main_c_1_apply, e]
  exact Routing.wrap_of_lt _ _ h

/-- Update `i` of the scatter lands at `(r, k)` exactly when its two words, read signed, are `r` and `k`. -/
theorem lands (idx : IVec S4096x2 32) (i r : Fin 4096) (k : Fin 1000) :
    scatter_S4096x1000_S4096x2_S4096_n_01_01_1.resultIdx? (ix1 i : S4096.Idx) idx = some (ix2 r k : S4096x1000.Idx)
      ↔ (idx (ix2 i (0 : Fin 2))).toInt = r.val ∧ (idx (ix2 i (1 : Fin 2))).toInt = k.val := by
  have hw : ∀ a : Fin 2, scatter_S4096x1000_S4096x2_S4096_n_01_01_1.window (ix1 i : S4096.Idx) a = 0 := fun a => by
    fin_cases a <;> rfl
  have hs : ∀ a : Fin 2, scatter_S4096x1000_S4096x2_S4096_n_01_01_1.start (ix1 i : S4096.Idx) idx a = (idx (ix2 i a)).toInt := fun a => by
    match a with
    | ⟨0, _⟩ => exact congrArg (fun q => (idx q).toInt) (funext fun b => Fin.ext (by match b with | ⟨0, _⟩ => rfl | ⟨1, _⟩ => rfl))
    | ⟨1, _⟩ => exact congrArg (fun q => (idx q).toInt) (funext fun b => Fin.ext (by match b with | ⟨0, _⟩ => rfl | ⟨1, _⟩ => rfl))
  rw [Routing.resultIdx?_eq_some]
  constructor
  · intro h
    have h0 := h 0
    have h1 := h 1
    rw [hs, hw] at h0 h1
    exact ⟨by simpa using h0, by simpa using h1⟩
  · intro h a
    rw [hs, hw]
    match a with
    | ⟨0, _⟩ => simpa using h.1
    | ⟨1, _⟩ => simpa using h.2

/-- The weight of class `k` in row `i`, the targets `τ` being classes. -/
theorem weight_eq (t : (⟨S4096, .i32⟩ : BufTy).Contents (Elt Ideal)) (τ : Fin 4096 → Fin 1000)
    (hτ : ∀ i, (t (ix1 i : S4096.Idx) : BitVec 32).toNat = (τ i).val) (i : Fin 4096) (k : Fin 1000) :
    val_main_v17 (F := Ideal) t (ix2 i k : S4096x1000.Idx) = if k = τ i then ((share + excess : ℝ) : EReal) else (share : EReal) := by
  have hr : ∀ j : Fin 4096, (val_main_v15 (F := Ideal) t (ix2 j (0 : Fin 2) : S4096x2.Idx) : BitVec 32).toInt = (j.val : Int) := fun j => by
    have := j.isLt
    rw [words_row, WordCmp.toInt_ofNat_of_lt (show j.val < 2 ^ 31 by omega)]
  have hk : ∀ j : Fin 4096, (val_main_v15 (F := Ideal) t (ix2 j (1 : Fin 2) : S4096x2.Idx) : BitVec 32).toInt = ((τ j).val : Int) := fun j => by
    have := (τ j).isLt
    have hj : (t (ix1 j : S4096.Idx) : BitVec 32).toNat < 2 ^ 31 := by rw [hτ]; omega
    rw [words_target t j hj, WordCmp.toInt_eq_toNat_of_lt_half hj, hτ]
  unfold val_main_v17
  by_cases e : k = τ i
  · rw [if_pos e]
    refine Routing.scatter_set_hit _ _ _ _ _ _ (fun j _ => ?_) (ix1 i : S4096.Idx) ((lands _ _ _ _).2 ⟨hr i, by rw [hk, e]⟩)
    rw [val_main_v16_apply, val_main_cst_3_apply]
    exact word_conf
  · rw [if_neg e]
    refine (Routing.scatter_set_miss _ _ _ _ _ fun j hj => e ?_).trans ?_
    · obtain ⟨j, rfl⟩ : ∃ q : Fin 4096, j = (ix1 q : S4096.Idx) := ⟨j 0, funext fun a => by match a with | ⟨0, _⟩ => rfl⟩
      obtain ⟨h0, h1⟩ := (lands _ _ _ _).1 hj
      rw [hr] at h0
      rw [hk] at h1
      obtain rfl : j = i := Fin.ext (by omega)
      exact Fin.ext (by omega)
    · rw [val_main_v1_apply, val_main_cst_apply]
      exact word_share

end Cert.ReferenceIdeal.Rows

end
-- ==== Proof.RefValue.lean ====
/-
  What the reference computes: the sum over the rows of minus the weighted sum of log-probabilities, times 1/4096.
-/
module

public import proofs.«01_k».proof.Proof.RowLoss
public import proofs.«01_k».proof.Proof.RefWeights

@[expose] public section

noncomputable section

namespace Cert.ReferenceIdeal.Rows

open Idealize.ShloMosaic Idealize.ShloMosaic.ValueIdx
open Cert.ReferenceIdeal Cert.ReferenceIdeal.Gen Cert.ReferenceIdeal.Read Cert.Loss

/-- Row `i` of the logits. -/
abbrev row (x : (⟨S4096x1000, .f32⟩ : BufTy).Contents (Elt Ideal)) (i : Fin 4096) : Fin 1000 → EReal :=
  fun k => x (ix2 i k : S4096x1000.Idx)

/-- The reference's row maximum. -/
theorem max_eq (x : (⟨S4096x1000, .f32⟩ : BufTy).Contents (Elt Ideal)) (i : Fin 4096) :
    val_main_call0_v2 (F := Ideal) x (ix1 i : S4096.Idx) = peak (row x i) := by
  have hf : val_main_call0_v0 (F := Ideal) x (ix1 i : S4096.Idx) = peak (row x i) := by
    unfold val_main_call0_v0
    refine (Host.reduce_eq_fold_single (FloatOps.maximumf (F := Ideal) (φ := .f32)) x _ reducesTo_S4096x1000_S4096_d1 (by decide) h_S_ _).trans ?_
    have h0 : val_main_call0_cst (F := Ideal) (Shape.Idx.first h_S_) = (⊥ : EReal) := word_bottom
    rw [h0]
    unfold peak
    refine Finset.fold_congr fun k _ => ?_
    exact congrArg x (funext fun a => Fin.ext (by match a with | ⟨0, _⟩ => rfl | ⟨1, _⟩ => rfl))
  have h1 : val_main_call0_v1 (F := Ideal) (ix1 i : S4096.Idx) = (⊥ : EReal) := by
    rw [val_main_call0_v1_apply]
    exact word_bottom
  rw [val_main_call0_v2_apply, h1, hf]
  exact max_eq_right bot_le

/-- The shifted logit of class `k` in row `i`. -/
theorem shifted_eq (x : (⟨S4096x1000, .f32⟩ : BufTy).Contents (Elt Ideal)) (i : Fin 4096) (k : Fin 1000) :
    val_main_call0_v5 (F := Ideal) x (ix2 i k : S4096x1000.Idx) = row x i k - peak (row x i) := by
  rw [val_main_call0_v5_apply, val_main_call0_v4_apply, val_main_call0_v3_apply]
  have e : idx_main_call0_v3 (idx_main_call0_v4 (ix2 i k : S4096x1000.Idx)) = (ix1 i : S4096.Idx) :=
    funext fun a => by match a with | ⟨0, _⟩ => rfl
  rw [e, max_eq]
  rfl

/-- The logarithm of row `i`'s sum of exponentials. -/
theorem log_eq (x : (⟨S4096x1000, .f32⟩ : BufTy).Contents (Elt Ideal)) (i : Fin 4096) :
    val_main_call0_v9 (F := Ideal) x (ix2 i (0 : Fin 1) : S4096x1.Idx) = logSum (row x i) := by
  have e : idx_main_call0_v8 (ix2 i (0 : Fin 1) : S4096x1.Idx) = (ix1 i : S4096.Idx) :=
    funext fun a => by match a with | ⟨0, _⟩ => rfl
  rw [val_main_call0_v9_apply, val_main_call0_v8_apply, e, val_main_call0_v7_apply]
  have h0 : val_main_call0_cst_1 (F := Ideal) (Shape.Idx.first h_S_) = (0 : EReal) := Ideal.ofBits_zero_f32
  have hk : ∀ k : Fin 1000, val_main_call0_v6 (F := Ideal) x (idx_main_call0_v7 (ix1 i : S4096.Idx) k)
      = Ideal.exp (row x i k - peak (row x i)) := fun k => by
    have e' : idx_main_call0_v7 (ix1 i : S4096.Idx) k = (ix2 i k : S4096x1000.Idx) :=
      funext fun a => by match a with | ⟨0, _⟩ => rfl | ⟨1, _⟩ => rfl
    rw [e', val_main_call0_v6_apply, shifted_eq]
    rfl
  rw [h0, Finset.sum_congr rfl fun k _ => hk k]
  show Ideal.log ((0 : EReal) + _) = _
  rw [zero_add]
  rfl

/-- The log-probability of class `k` in row `i`. -/
theorem logprob_eq (x : (⟨S4096x1000, .f32⟩ : BufTy).Contents (Elt Ideal)) (i : Fin 4096) (k : Fin 1000) :
    val_main_v0 (F := Ideal) x (ix2 i k : S4096x1000.Idx) = (row x i k - peak (row x i)) - logSum (row x i) := by
  have e : idx_main_call0_v10 (ix2 i k : S4096x1000.Idx) = (ix2 i (0 : Fin 1) : S4096x1.Idx) :=
    funext fun a => by match a with | ⟨0, _⟩ => rfl | ⟨1, _⟩ => rfl
  rw [val_main_v0_apply, shifted_eq, val_main_call0_v10_apply, e, log_eq]
  rfl

/-- Row `i`'s loss. -/
theorem loss_eq (x : (⟨S4096x1000, .f32⟩ : BufTy).Contents (Elt Ideal)) (t : (⟨S4096, .i32⟩ : BufTy).Contents (Elt Ideal))
    (τ : Fin 4096 → Fin 1000) (hτ : ∀ i, (t (ix1 i : S4096.Idx) : BitVec 32).toNat = (τ i).val) (i : Fin 4096) :
    val_main_v20 (F := Ideal) x t (ix1 i : S4096.Idx)
      = plainRow (fun k => if k = τ i then ((share + excess : ℝ) : EReal) else (share : EReal)) (row x i) := by
  have h0 : val_main_cst_4 (F := Ideal) (Shape.Idx.first h_S_) = (0 : EReal) := Ideal.ofBits_zero_f32
  have hk : ∀ k : Fin 1000, val_main_v18 (F := Ideal) x t (idx_main_v19 (ix1 i : S4096.Idx) k)
      = (if k = τ i then ((share + excess : ℝ) : EReal) else (share : EReal)) * ((row x i k - peak (row x i)) - logSum (row x i)) := fun k => by
    have e' : idx_main_v19 (ix1 i : S4096.Idx) k = (ix2 i k : S4096x1000.Idx) :=
      funext fun a => by match a with | ⟨0, _⟩ => rfl | ⟨1, _⟩ => rfl
    rw [e', val_main_v18_apply, weight_eq t τ hτ, logprob_eq]
    rfl
  rw [val_main_v20_apply, val_main_v19_apply, h0, Finset.sum_congr rfl fun k _ => hk k]
  show -((0 : EReal) + _) = _
  rw [zero_add]
  rfl

/-- The reference's result. -/
theorem result_eq (x : (⟨S4096x1000, .f32⟩ : BufTy).Contents (Elt Ideal)) (t : (⟨S4096, .i32⟩ : BufTy).Contents (Elt Ideal))
    (τ : Fin 4096 → Fin 1000) (hτ : ∀ i, (t (ix1 i : S4096.Idx) : BitVec 32).toNat = (τ i).val) (j : S_.Idx) :
    val_main_v22 (F := Ideal) x t j
      = (∑ i : Fin 4096, plainRow (fun k => if k = τ i then ((share + excess : ℝ) : EReal) else (share : EReal)) (row x i))
        * ((1 / 4096 : ℝ) : EReal) := by
  have h0 : val_main_cst_5 (F := Ideal) (Shape.Idx.first h_S_) = (0 : EReal) := Ideal.ofBits_zero_f32
  have h6 : val_main_cst_6 (F := Ideal) j = ((4096 : ℝ) : EReal) := word_rows
  have hs : ∑ q : S4096.Idx, val_main_v20 (F := Ideal) x t q
      = ∑ i : Fin 4096, plainRow (fun k => if k = τ i then ((share + excess : ℝ) : EReal) else (share : EReal)) (row x i) := by
    rw [← (idxEquiv1 (n := 4096)).symm.sum_comp]
    exact Finset.sum_congr rfl fun i _ => loss_eq x t τ hτ i
  rw [val_main_v22_apply, val_main_v21_apply, h0, h6]
  show Ideal.div ((0 : EReal) + ∑ q : S4096.Idx, val_main_v20 (F := Ideal) x t q) ((4096 : ℝ) : EReal) = _
  rw [hs, zero_add, Ideal.div_coe (by norm_num)]

end Cert.ReferenceIdeal.Rows

end
-- ==== Proof.Equation.lean ====
/-
  The equation: on logits without +∞ and targets that are classes, the kernel's result is the reference's.
-/
module

public import proofs.«01_k».proof.Proof.KernelMean
public import proofs.«01_k».proof.Proof.RefValue
public import proofs.«01_k».proof.Proof.Gen.Pre_in_domain

@[expose] public section

noncomputable section

namespace Cert.Equation

open Idealize.ShloMosaic Idealize.ShloMosaic.TcCoe
open Cert.Loss

/-- What the precondition says of the arguments: no logit is +∞, and every target is a class. -/
theorem domain (x : FVec Ideal Cert.Pre_in_domain.S4096x1000 .f32) (t : IVec Cert.Pre_in_domain.S4096 32)
    (h : (Cert.Pre_in_domain.fn (F := Ideal) x t).1 = (fun _ => 1#1)
      ∧ (Cert.Pre_in_domain.fn (F := Ideal) x t).2.1 = (fun _ => 1#1)
      ∧ (Cert.Pre_in_domain.fn (F := Ideal) x t).2.2 = (fun _ => 1#1)) :
    (∀ i, x i < (⊤ : EReal)) ∧ ∀ i, (t i).toNat < 1000 := by
  obtain ⟨hx, h0, h1⟩ := h
  refine ⟨fun i => ?_, fun i => ?_⟩
  · have e : BitVec.ofBool (decide (x i < Ideal.ofBits .f32 0x7F800000#32)) = 1#1 := congrFun hx i
    rw [WordCmp.ofBool_decide_eq_one_iff, word_top] at e
    exact e
  · have e0 : IntOp.cmpi .sge (t i) 0#32 = 1#1 := congrFun h0 i
    have e1 : IntOp.cmpi .slt (t i) 1000#32 = 1#1 := congrFun h1 i
    rw [WordCmp.cmpi_sge_eq, WordCmp.ofBool_decide_eq_one_iff, BitVec.toInt_zero] at e0
    rw [WordCmp.cmpi_slt_eq, WordCmp.ofBool_decide_eq_one_iff] at e1
    have hh := (WordCmp.toInt_nonneg_iff_lt_half (t i)).1 e0
    rw [WordCmp.toInt_eq_toNat_of_lt_half hh, WordCmp.toInt_ofNat_of_lt (by decide)] at e1
    exact Int.ofNat_lt.1 e1

/-- On such arguments the element the kernel returns is the element the reference returns. -/
theorem kernel_eq_reference (m : (ℓ : Loc Cert.KernelIdeal.nD Cert.KernelIdeal.τ Cert.KernelIdeal.sig) → Buf (Elt Ideal) ℓ)
    (c : Dev Cert.KernelIdeal.nD)
    (x : (⟨Cert.ReferenceIdeal.S4096x1000, .f32⟩ : BufTy).Contents (Elt Ideal)) (t : (⟨Cert.ReferenceIdeal.S4096, .i32⟩ : BufTy).Contents (Elt Ideal))
    (hx : x = m ((c.tc : Thread Cert.KernelIdeal.nD Cert.KernelIdeal.τ).loc Cert.KernelIdeal.main_arg0))
    (ht : t = m ((c.tc : Thread Cert.KernelIdeal.nD Cert.KernelIdeal.τ).loc Cert.KernelIdeal.main_arg1))
    (hfin : ∀ i, (x i : EReal) < ⊤) (hcls : ∀ i, (t i : BitVec 32).toNat < 1000) (j : Cert.ReferenceIdeal.S_.Idx) :
    Cert.ReferenceIdeal.Read.val_main_v22 (F := Ideal) x t j = Cert.KernelIdeal.Value.total m c (ValueIdx.ix2 0 0) := by
  subst hx ht
  rw [Cert.ReferenceIdeal.Rows.result_eq _ _ (fun i => ⟨_, hcls (ValueIdx.ix1 i)⟩) (fun _ => rfl),
    Cert.KernelIdeal.Mean.result_eq m c (fun i => ⟨_, hcls (ValueIdx.ix1 i)⟩) (fun _ => rfl)]
  refine congrArg (· * ((1 / 4096 : ℝ) : EReal)) (Finset.sum_congr rfl fun i _ => ?_)
  exact (shortRow_eq_plainRow share excess share_pos excess_pos _ (fun k => hfin _) _).symm

end Cert.Equation

end
-- ==== Proof.lean ====
/-
  The claims, assembled: the kernel and its idealization run and end quiescent; so does the reference; the one named constant
  keeps to its rule; and on the precondition the kernel's result is the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_domain
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, its arguments end unchanged, and every counter ends at zero: it declares no semaphore. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel and the reference, run in the extended reals from equal arguments in the domain, return the same element. -/
theorem same_result : Cert.algebraic_KernelIdeal_ReferenceIdeal_pre_in_domain := by
  intro m g m' g' hpre hargs
  refine ⟨fun c _ => Cert.KernelIdeal.Value.total m c (ValueIdx.ix2 0 0), Cert.KernelIdeal.Value.run m g, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v22_eq _ _).trans (funext fun j => ?_))
  obtain ⟨hfin, hcls⟩ := Cert.Equation.domain _ _ (hpre c)
  exact Cert.Equation.kernel_eq_reference m c _ _ (hargs c).1 (hargs c).2 (fun i => by rw [(hargs c).1]; exact hfin i)
    (fun i => by rw [(hargs c).2]; exact hcls i) j

/-- Every claim. -/
theorem claim : Cert.Claim :=
  ⟨Cert.Kernel.Gen.facts, Cert.KernelIdeal.Gen.facts, Cert.ReferenceIdeal.Gen.facts, Cert.Pre_in_domain.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    IdealRules.named_const.statement Cert.KernelIdeal.κ "conf_less_share" .f32 0x3F665FD7#32 _ rfl,
    same_result⟩

end Cert.Proof

end
